-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_zero_over_zero [hPre_no_zero_over_zero : Cert.Pre_no_zero_over_zero.Facts] (m : (ℓ : Loc Cert.KernelIdeal.nD Cert.KernelIdeal.τ Cert.KernelIdeal.sig) → Buf (Elt Ideal) ℓ) : Prop :=
  ∀ c : Dev Cert.KernelIdeal.nD,
    (Cert.Pre_no_zero_over_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_zero_over_zero [hPre_no_zero_over_zero : Cert.Pre_no_zero_over_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_zero_over_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_zero_over_zero [hKernelIdeal : Cert.KernelIdeal.Facts] [hPre_no_zero_over_zero : Cert.Pre_no_zero_over_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_zero_over_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_zero_over_zero [hReferenceIdeal : Cert.ReferenceIdeal.Facts] [hPre_no_zero_over_zero : Cert.Pre_no_zero_over_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_zero_over_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_no_zero_over_zero [hKernelIdeal : Cert.KernelIdeal.Facts] [hReferenceIdeal : Cert.ReferenceIdeal.Facts] [hPre_no_zero_over_zero : Cert.Pre_no_zero_over_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_zero_over_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_zero_over_zero : Cert.Pre_no_zero_over_zero.Facts),
    quiescent_Kernel (hKernel := hKernel)
    ∧ quiescent_KernelIdeal (hKernelIdeal := hKernelIdeal)
    ∧ quiescent_KernelIdeal_pre_no_zero_over_zero (hKernelIdeal := hKernelIdeal) (hPre_no_zero_over_zero := hPre_no_zero_over_zero)
    ∧ quiescent_ReferenceIdeal (hReferenceIdeal := hReferenceIdeal)
    ∧ quiescent_ReferenceIdeal_pre_no_zero_over_zero (hReferenceIdeal := hReferenceIdeal) (hPre_no_zero_over_zero := hPre_no_zero_over_zero)
    ∧ preserves_Kernel_KernelIdeal
    ∧ algebraic_KernelIdeal_ReferenceIdeal_pre_no_zero_over_zero (hKernelIdeal := hKernelIdeal) (hReferenceIdeal := hReferenceIdeal) (hPre_no_zero_over_zero := hPre_no_zero_over_zero)
-- ==== Pre_no_zero_over_zero.lean ====
abbrev S64x1000000 : Shape := ⟨2, ![64, 1000000]⟩
abbrev S64x1 : Shape := ⟨2, ![64, 1]⟩
abbrev S_ : Shape := ⟨0, ![]⟩

class Facts : Prop where
  bcast_S_S64x1 : S_.BroadcastsInDim S64x1 (![] : Fin 0 → Fin S64x1.rank)
  bcast_S_S64x1000000 : S_.BroadcastsInDim S64x1000000 (![] : Fin 0 → Fin S64x1000000.rank)
  bcast_S64x1_S64x1000000_0_1 : S64x1.BroadcastsInDim S64x1000000 (![0, 1] : Fin 2 → Fin S64x1000000.rank)
  reducesTo_S64x1000000_S_d0_1 : S64x1000000.ReducesTo [0, 1] S_
  h_S_ : 0 < S_.numel

variable [Facts]

def fn {F : FTy → Type} [FloatOps F] (main_arg0 : FVec F S64x1000000 .f32) (main_arg1 : FVec F S64x1 .f32) : IVec S_ 1 :=
  let main_cst : FVec F S_ .f32 := constant S_ .f32 0xFF800000#32
  let main_v0 : FVec F S64x1 .f32 := broadcastInDim S64x1 ![] bcast_S_S64x1 main_cst
  let main_v1 : IVec S64x1 1 := cmpf .ogt main_arg1 main_v0
  let main_cst_0 : FVec F S_ .f32 := constant S_ .f32 0x00000000#32
  let main_v2 : FVec F S64x1000000 .f32 := broadcastInDim S64x1000000 ![] bcast_S_S64x1000000 main_cst_0
  let main_v3 : IVec S64x1000000 1 := cmpf .une main_arg0 main_v2
  let main_v4 : IVec S64x1000000 1 := broadcastInDim S64x1000000 ![0, 1] bcast_S64x1_S64x1000000_0_1 main_v1
  let main_v5 : IVec S64x1000000 1 := ori main_v4 main_v3
  let main_c : IVec S_ 1 := constantI S_ 1 1#1
  let main_v6 : IVec S_ 1 := (fun x v => Host.reduce IntOp.andi x v reducesTo_S64x1000000_S_d0_1 h_S_) main_v5 main_c
  main_v6
-- ==== Kernel.lean ====
abbrev S64x1000000 : Shape := ⟨2, ![64, 1000000]⟩
abbrev S64x1 : Shape := ⟨2, ![64, 1]⟩
abbrev S64x57344 : Shape := ⟨2, ![64, 57344]⟩

abbrev nBuf : Space → Nat
  | .hbm => 3
  | .vmem => 5
  | .smem => 0
  | _ => 0

abbrev bufTy : (tb : Table) → Fin (tcTables nBuf tb) → BufTy
  | .hbm, ⟨0, _⟩ => ⟨S64x1000000, .f32⟩
  | .hbm, ⟨1, _⟩ => ⟨S64x1, .f32⟩
  | .hbm, ⟨2, _⟩ => ⟨S64x1000000, .f32⟩
  | .local _ .vmem, ⟨0, _⟩ => ⟨S64x57344, .f32⟩
  | .local _ .vmem, ⟨1, _⟩ => ⟨S64x57344, .f32⟩
  | .local _ .vmem, ⟨2, _⟩ => ⟨S64x1, .f32⟩
  | .local _ .vmem, ⟨3, _⟩ => ⟨S64x57344, .f32⟩
  | .local _ .vmem, ⟨4, _⟩ => ⟨S64x57344, .f32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x57344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x57344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64x1000000 : Shape := ⟨2, ![64, 1000000]⟩
abbrev S64x1 : Shape := ⟨2, ![64, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S64x1000000, .f32⟩
  | .hbm, ⟨1, _⟩ => ⟨S64x1, .f32⟩
  | .hbm, ⟨2, _⟩ => ⟨S64x1, .f32⟩
  | .hbm, ⟨3, _⟩ => ⟨S64x1, .f32⟩
  | .hbm, ⟨4, _⟩ => ⟨S_, .f32⟩
  | .hbm, ⟨5, _⟩ => ⟨S64x1, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S64x1000000, .f32⟩
  | .hbm, ⟨11, _⟩ => ⟨S64x1000000, .f32⟩
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Body.lean ====
/-
  One run of the kernel's body, at any float values: the temperatures and a block of logits are loaded whole, the
  product of the logits with the reciprocals of the temperatures' sigmoids is stored whole. Stated of any three staging
  buffers, and then as what the pipeline asks of the body at a grid point.

  The last of the 18 blocks overhangs the array: its transfers move the columns inside the array only, and what the
  staging buffers hold in the other columns is not known. The product is taken element by element, so the columns
  inside the array do not depend on the others (`scaled_cut`).
-/
module

public import proofs.«01_k».proof.Proof.Gen.Kernel.Frame
public import proofs.«01_k».proof.Proof.Gen.Kernel.Skeleton
public import Idealize.ShloMosaic.Lib.Pipeline.Value

@[expose] public section

noncomputable section

namespace Cert.Scale

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any staging buffers -/

/-- The offsets of every access of the body are zero. -/
theorem offsets_zero : (![0, 0] : Fin 2 → Nat) = fun _ => 0 := funext fun a => by fin_cases a <;> rfl

/-- The body leaves the logits' and the temperatures' buffers as they were, and the result's buffer holding the
    logits times the reciprocals of the temperatures' sigmoids. -/
theorem body_run (c : Dev nD) (E : Set ℕ) (i : grid0.Coords)
    (arg1 : Memref sig .tc .vmem S64x57344 .f32) (h1 : arg1.IsWhole)
    (arg2 : Memref sig .tc .vmem S64x1 .f32) (h2 : arg2.IsWhole)
    (arg3 : Memref sig .tc .vmem S64x57344 .f32) (h3 : arg3.IsWhole)
    (X : S64x57344.Idx → Elt F .f32) (T : S64x1.Idx → Elt F .f32) (Y : S64x57344.Idx → Elt F .f32)
    (K : PUnit → sProp 𝕄) :
    iprop((owns (c : Thread nD τ) arg1 fullShare X ∗ owns (c : Thread nD τ) arg2 fullShare T
            ∗ owns (c : Thread nD τ) arg3 fullShare Y)
          ∗ (iprop(owns (c : Thread nD τ) arg1 fullShare X ∗ owns (c : Thread nD τ) arg2 fullShare T
                  ∗ owns (c : Thread nD τ) arg3 fullShare (k0_pay1 T X)) -∗ K ⟨⟩))
      ⊢ wp frame (wpE (defs₀ (F := F)) Variants.none c none) E (cc0__scale_body i arg1 h1 arg2 h2 arg3 h3) K := by
  simp only [cc0__scale_body_eq_skeleton]; unfold cc0__scale_body_skel
  unfold owns
  iintro ⟨⟨⟨%f1, %hf1, H1⟩, ⟨%f2, %hf2, H2⟩, ⟨%f3, %hf3, H3⟩⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  · iexists _; isplitr
    swap; · iexact H3
    ipureintro
    refine (View.read_writes_eq_canon _ _ _ fun y => ⟨_, List.mem_cons_self, View.mem_set_unit_zero offsets_zero inb_S64x57344_S64x57344_0_0 y⟩).trans ?_
    rw [View.canon_unit_zero offsets_zero, View.readAt_eq_ld, View.readAt_eq_ld,
      View.ld_unit_zero offsets_zero, View.ld_unit_zero offsets_zero]

/-! ## What the staging buffers hold at a grid point -/

/-- The temperatures as the body finds them at point `t`: the whole array. -/
abbrev temps (c : Dev nD) (t : Fin cfg0.N) : S64x1.Idx → Elt F .f32 := iblk m c 1 t

/-- The logits' staging buffer at point `t`: the block of the array, the columns past the array's end at zero. -/
def padded (c : Dev nD) (t : Fin cfg0.N) : S64x57344.Idx → Elt F .f32 :=
  win0_0.fill (grid0.coords t) (fun _ => Scalar.ofBits .f32 0#32) (iblk m c 0 t)

/-- The pipeline's data on device `c`: the arrays as launched, and after each point the logits' buffer at its block,
    the temperatures' at the temperatures, the result's at the scaled block. -/
def dats (_ : Fin 1) (c : Dev nD) : Dat τ (Elt F) Unit ℕ (UR sig nD τ) ℕ cfg0 c where
  A w := V m c (Pipeline.arrRef spec0 w)
  after w t := match w with
    | ⟨0, _⟩ => padded m c t
    | ⟨1, _⟩ => temps m c t
    | ⟨2, _⟩ => k0_pay1 (temps m c t) (padded m c t)
  Φ _ := Pipeline.ΦA spec0 c
  q _ := fullShare
  owed _ := 0

/-- The logits' buffer has just been fetched: its block, and anything (`d`) past the array's end. -/
theorem before_logits (c : Dev nD) (t : Fin cfg0.N) (d) :
    (dats m 0 c).before 0 t d = win0_0.fill (grid0.coords t) d (iblk m c 0 t) := by
  unfold Dat.before; rw [if_pos (fetch0_0 t)]; rfl

/-- The temperatures' buffer holds the temperatures, fetched at the first point and kept since. -/
theorem before_temps (c : Dev nD) (t : Fin cfg0.N) (d) : (dats m 0 c).before 1 t d = temps m c t :=
  before0_1_of m (dats m 0 c) rfl (fun _ => rfl) t d

/-- The result's buffer holds anything: it was written back at the point before. -/
theorem before_result (c : Dev nD) (t : Fin cfg0.N) (d) : (dats m 0 c).before 2 t d = d :=
  (dats m 0 c).before_out_reset 2 rfl t
    ((Nat.eq_zero_or_pos t.val).imp id fun h => ⟨h.ne', flush0_2 _⟩) d

/-- An element of the product depends on the logit at its own place only, so two blocks that agree on the columns a
    transfer moves have products that agree there. -/
theorem scaled_cut (t : Fin cfg0.N) (T : S64x1.Idx → Elt F .f32) (X Y : S64x57344.Idx → Elt F .f32)
    (h : win0_0.cut (grid0.coords t) X = win0_0.cut (grid0.coords t) Y) :
    win0_2.cut (grid0.coords t) (k0_pay1 T X) = win0_2.cut (grid0.coords t) (k0_pay1 T Y) :=
  funext fun j => congrArg
    (fun x => FloatOps.mulf x (broadcastTo S64x57344 (divf (broadcast S64x1 (Scalar.ofBits .f32 0x3F800000#32)) (logistic T))
      broadcasts_S64x1_S64x57344 (win0_2.xinj (grid0.coords t) j))) (congrFun h j)

/-- Whatever lies past the array's end, the logits' buffer agrees with `padded` on the columns a transfer moves. -/
theorem filled_cut (c : Dev nD) (t : Fin cfg0.N) (d : S64x57344.Idx → Elt F .f32) :
    win0_0.cut (grid0.coords t) (win0_0.fill (grid0.coords t) d (iblk m c 0 t)) = win0_0.cut (grid0.coords t) (padded m c t) :=
  (win0_0.cut_fill _ _ _).trans (win0_0.cut_fill _ _ _).symm

/-- So the product the body stores, filled out with itself past the array's end, is as the pipeline's data say. -/
theorem result_filled (c : Dev nD) (t : Fin cfg0.N) (d : S64x57344.Idx → Elt F .f32) :
    (cfg0.win 2).fill (cfg0.grid.coords t) (k0_pay1 (temps m c t) (win0_0.fill (grid0.coords t) d (iblk m c 0 t)))
        ((cfg0.win 2).cut (cfg0.grid.coords t) ((dats m 0 c).after 2 t))
      = k0_pay1 (temps m c t) (win0_0.fill (grid0.coords t) d (iblk m c 0 t)) :=
  win0_2.fill_congr_cut (grid0.coords t) (scaled_cut t (temps m c t) _ _ (filled_cut m c t d))

/-! ## What the pipeline asks of the body -/

/-- At every grid point the body, run on the staging buffers as the pipeline hands them over, leaves each as the
    pipeline's data say, on the columns inside the array. -/
theorem body_obligation (c : Dev nD) : BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_logits m c t d0, before_temps m c t d1, before_result m c t d2]
  iapply (body_run (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (win0_0.fill (grid0.coords t) d0 (iblk m c 0 t)) (temps m c t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t) (padded m c t) = iblk m c 0 t := win0_0.cut_fill _ _ _
  isplitl [H0]
  · iexists d0
    change _ ⊢ owns (c : Thread nD τ) (st0_0 t) fullShare (win0_0.fill (grid0.coords t) d0 (win0_0.cut (grid0.coords t) (padded m c t)))
    rw [hx]; try iexact H0
  isplitl [H1]
  · iexact H1
  · iexists k0_pay1 (temps m c t) (win0_0.fill (grid0.coords t) d0 (iblk m c 0 t))
    rw [result_filled m c t d0]; try iexact H2

/-! ## The run -/

set_option backward.isDefEq.respectTransparency.types false in
/-- From any memory with zero counters the program terminates; its arrays end as the pipeline's data say, and every
    counter at zero. -/
theorem run : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ Variants.none m ρ main
    (hbody := body_obligation m)
    (hshare := fun c w => (dats m 0 c).share_full (fun _ => rfl) w) (howed := fun _ _ => rfl)
    (V := V m) (hmain := hmain m Variants.none) (hA := fun _ _ => rfl) (hΦ := fun _ _ => rfl)
    (Q' := fun r => Pipeline.FramePost cfgs (dats m) 0 (V m) r ∧ r.2.sem = fun _ => 0) (hQ' := fun _ h => h)

/-- The two arguments end as launched. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 0).trans ((dats m 0 c).arrAt_in 0 rfl _), ((h c).1 1).trans ((dats m 0 c).arrAt_in 1 rfl _)⟩

end Cert.Scale

end
-- ==== Proof.Result.lean ====
/-
  The result array after the run, at any float values: every element is the logit at its place times the reciprocal of
  the sigmoid of its row's temperature. Each grid point writes its block of that array, cut at the array's end, and the
  18 blocks cover the array.
-/
module

public import proofs.«01_k».proof.Proof.Body
public import Idealize.ShloMosaic.Lib.ValueIdxCore

@[expose] public section

noncomputable section

namespace Cert.Scale

open Cert.Kernel Cert.Kernel.Gen

open Idealize.ShloMosaic Idealize.ShloMosaic.TcCoe Idealize.SL.Sem

variable {F : FTy → Type} [FloatOps F]
variable (m : (ℓ : Loc nD τ sig) → Buf (Elt F) ℓ) (ρ : Dev nD → PrngReg)

/-- The place of row `i`'s temperature. -/
abbrev row (i : Fin 64) : S64x1.Idx := ValueIdx.ix2 i 0

/-- A logit times the reciprocal of the sigmoid of a temperature. -/
def scale (x t : F .f32) : F .f32 := FloatOps.mulf x (FloatOps.divf (Scalar.ofBits .f32 0x3F800000#32) (FloatOps.logistic t))

/-- The whole result: every logit scaled by its row's temperature. -/
def scaled (x : S64x1000000.Idx → Elt F .f32) (t : S64x1.Idx → Elt F .f32) : S64x1000000.Idx → Elt F .f32 :=
  fun i => scale (x i) (t (row (i 0)))

/-- The stored product at an index: the logit there, scaled by the row's temperature. -/
theorem product_apply (T : S64x1.Idx → Elt F .f32) (X : S64x57344.Idx → Elt F .f32) (j : S64x57344.Idx) :
    k0_pay1 T X j = scale (X j) (T (row (j 0))) := by
  show FloatOps.mulf (X j) (broadcastTo S64x57344 (divf (broadcast S64x1 (Scalar.ofBits .f32 0x3F800000#32)) (logistic T))
      broadcasts_S64x1_S64x57344 j) = _
  rw [broadcastTo_apply _ broadcasts_S64x1_S64x57344 j (row (j 0)) fun a => by fin_cases a <;> rfl]
  rfl

/-! ## Each point's block -/

/-- The temperatures' one block is the whole array. -/
theorem temps_eq (c : Dev nD) (t : Fin cfg0.N) : temps m c t = m ((c : Thread nD τ).loc main_arg1) := by
  funext j
  show m ((c : Thread nD τ).loc main_arg1) ((win0_1.rect t).emb j) = _
  refine congrArg _ (funext fun a => Fin.ext ?_)
  rw [Rect.emb_apply]
  fin_cases a <;> simp [Pipeline.Window.index, cc0_transform_1]

/-- The rows of a block are the array's rows. -/
theorem block_row (t : Fin cfg0.N) (j : (win0_2.xblock (grid0.coords t)).Idx) :
    (win0_2.rect t).emb j 0 = win0_2.xinj (grid0.coords t) j 0 := by
  refine Fin.ext ?_
  rw [Rect.emb_apply]
  simp [Pipeline.Window.index, cc0_transform_2]

/-- What point `t` writes back is its block of the whole result. -/
theorem block_eq (c : Dev nD) (t : Fin cfg0.N) :
    (dats m 0 c).flushed 2 t
      = ((cfg0.win 2).blk t).view.read (Elt F) (scaled (m ((c : Thread nD τ).loc main_arg0)) (m ((c : Thread nD τ).loc main_arg1))) := by
  funext j
  show k0_pay1 (temps m c t) (padded m c t) (win0_2.xinj (grid0.coords t) j)
    = scaled (m ((c : Thread nD τ).loc main_arg0)) (m ((c : Thread nD τ).loc main_arg1)) ((win0_2.rect t).emb j)
  rw [product_apply, temps_eq, scaled, block_row]
  exact congrArg (fun x => scale x _) (win0_0.fill_xinj (grid0.coords t) _ (iblk m c 0 t) j)

/-! ## The blocks cover the array -/

/-- Point `t`'s block is block `t` along the columns, all the rows; -/
theorem block_index (t : Fin cfg0.N) : win0_2.index t 0 = 0 ∧ win0_2.index t 1 = t.val := by
  revert t; decide +kernel

/-- of 57344 columns, or those left before the array's end. -/
theorem block_size (t : Fin cfg0.N) : win0_2.xsize (grid0.coords t) 0 = 64
    ∧ win0_2.xsize (grid0.coords t) 1 = min 57344 (1000000 - t.val * 57344) := by
  revert t; decide +kernel

/-- Every index of the array lies in the block of its column. -/
theorem covered (i : S64x1000000.Idx) : ∃ t : Fin cfg0.N, (cfg0.win 2).flush t = true ∧ i ∈ ((cfg0.win 2).blk t).view.set := by
  have h0 : (i 0).val < 64 := (i 0).isLt
  have h1 : (i 1).val < 1000000 := (i 1).isLt
  have hN : cfg0.N = 18 := N_0
  let t : Fin cfg0.N := ⟨(i 1).val / 57344, by omega⟩
  have ht : t.val = (i 1).val / 57344 := rfl
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 64 ≤ (i 0).val ∧ (i 0).val < win0_2.index t 0 * 64 + win0_2.xsize (grid0.coords t) 0
    rw [(block_index t).1, (block_size t).1]; omega
  | ⟨1, _⟩ =>
    show win0_2.index t 1 * 57344 ≤ (i 1).val ∧ (i 1).val < win0_2.index t 1 * 57344 + win0_2.xsize (grid0.coords t) 1
    rw [(block_index t).2, (block_size t).2, ht]; omega

/-- The result array ends holding the whole result. -/
theorem result_eq (c : Dev nD) : (dats m 0 c).arrAt 2 cfg0.N
    = scaled (m ((c : Thread nD τ).loc main_arg0)) (m ((c : Thread nD τ).loc main_arg1)) :=
  (dats m 0 c).arrAt_eq_of_cover 2 _ (fun t _ => block_eq m c t) covered

/-- The run with its result: the result array holds the scaled logits, the arguments are as launched, every counter is
    at zero. -/
theorem run_result : θ_run defs (onTc (τ := τ) (main (F := F))) ⟨m, fun _ => 0, ρ⟩ (fun r => (∀ c : Dev nD,
      r.2.mem ((c.tc : Thread nD τ).loc main_v0)
          = scaled (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c => ⟨((h.1 c).1 2).trans (result_eq m c), args_kept m h.1 c⟩, h.2⟩) (run m ρ)

end Cert.Scale

end
-- ==== Proof.Quotient.lean ====
/-
  The product with a reciprocal against the quotient, over the extended reals: `x · (1 / σ(t)) = x / σ(t)` unless
  `t` is `−∞` and `x` is zero, where the left side is `0 · ∞ = 0` and the right side is `0 / 0`.
-/
module

public import proofs.«01_k».proof.Proof.Result
public import proofs.«01_k».proof.Pre_no_zero_over_zero
public import proofs.«01_k».proof.Proof.Gen.ReferenceIdeal.Run
public import Idealize.ShloMosaic.Lib.IdealHost
public import Idealize.ShloMosaic.Lib.ReduceAll

@[expose] public section

noncomputable section

namespace Cert.Scale

open Idealize.ShloMosaic

/-- The sigmoid is zero at `−∞` only. -/
theorem logistic_ne_zero {t : EReal} (h : t ≠ ⊥) : Ideal.logistic t ≠ 0 := by
  induction t with
  | bot => exact absurd rfl h
  | top => rw [Ideal.logistic_top]; exact one_ne_zero
  | coe r =>
    rw [Ideal.logistic_coe]
    exact_mod_cast inv_ne_zero (by positivity)

/-- A number other than zero times `1 / 0` is that number divided by zero: the infinity of its sign. -/
theorem mul_one_div_zero {x : EReal} (h : x ≠ 0) : x * Ideal.div 1 0 = Ideal.div x 0 := by
  have h1 : Ideal.div 1 0 = ⊤ := by simp [Ideal.div]
  rw [h1, Ideal.div, if_pos rfl]
  rcases lt_or_gt_of_ne h with hx | hx
  · rw [if_neg hx.not_gt, EReal.mul_top_of_neg hx]
  · rw [if_pos hx, EReal.mul_top_of_pos hx]

/-- The scaled logit is the quotient by the sigmoid, where the temperature is above `−∞` or the logit is not zero. -/
theorem scale_eq_div {x t : EReal} (h : t ≠ ⊥ ∨ x ≠ 0) : x * Ideal.div 1 (Ideal.logistic t) = Ideal.div x (Ideal.logistic t) := by
  by_cases ht : t = ⊥
  · rw [ht, Ideal.logistic_bot]; exact mul_one_div_zero (h.resolve_left fun h => h ht)
  · exact Ideal.mul_one_div (logistic_ne_zero ht)

/-- In the case left out the two differ: the product is `0 · ∞ = 0`, the quotient `0 / 0` is `−∞`. -/
theorem zero_over_zero : (0 : EReal) * Ideal.div 1 (Ideal.logistic ⊥) = 0 ∧ Ideal.div 0 (Ideal.logistic ⊥) = ⊥ := by
  rw [Ideal.logistic_bot]; exact ⟨zero_mul _, by simp [Ideal.div]⟩

/-! ## The precondition, and the reference's result -/

/-- The shape relations the precondition's operations take. -/
instance preFacts : Cert.Pre_no_zero_over_zero.Facts where
  bcast_S_S64x1 := by decide
  bcast_S_S64x1000000 := by decide
  bcast_S64x1_S64x1000000_0_1 := by decide
  reducesTo_S64x1000000_S_d0_1 := by decide
  h_S_ := by decide

/-- A precondition that holds says, of every logit, that its row's temperature is above `−∞` or it is not zero. -/
theorem pre_apply {x : FVec Ideal Cert.Kernel.S64x1000000 .f32} {t : FVec Ideal Cert.Kernel.S64x1 .f32}
    (h : Cert.Pre_no_zero_over_zero.fn (F := Ideal) x t = fun _ => 1#1) (i : Cert.Kernel.S64x1000000.Idx) :
    (t (row (i 0)) : EReal) ≠ ⊥ ∨ (x i : EReal) ≠ 0 := by
  have e := congrFun h (Shape.Idx.first (by decide))
  dsimp only [Cert.Pre_no_zero_over_zero.fn] at e
  have : Subsingleton Cert.Pre_no_zero_over_zero.S_.Idx := ⟨fun _ _ => funext fun a => a.elim0⟩
  have e := IntOp.ori_eq_one.1 (Host.reduce_andi_all _ _ _ _ _ e i)
  rw [broadcastInDim_apply ![0, 1] preFacts.bcast_S64x1_S64x1000000_0_1 _ i (row (i 0)) fun a => by fin_cases a <;> rfl] at e
  refine e.imp (fun e => ?_) (fun e => ?_)
  · exact (of_decide_eq_true (BitVec.ofBool_eq_iff_eq.1 (e : BitVec.ofBool (decide (Ideal.ofBits .f32 0xFF800000#32 < t (row (i 0)))) = BitVec.ofBool true))).ne_bot
  · have e : (x i : EReal) ≠ Ideal.ofBits .f32 0x00000000#32 := of_decide_eq_true (BitVec.ofBool_eq_iff_eq.1 (e : BitVec.ofBool (decide ((x i : EReal) ≠ Ideal.ofBits .f32 0x00000000#32)) = BitVec.ofBool true))
    rwa [Ideal.ofBits_zero_f32] at e

/-- The reference's quotient is the kernel's product, under the precondition. -/
theorem quotient_eq {x : FVec Ideal Cert.Kernel.S64x1000000 .f32} {t : FVec Ideal Cert.Kernel.S64x1 .f32}
    (h : Cert.Pre_no_zero_over_zero.fn (F := Ideal) x t = fun _ => 1#1) :
    Host.divf x (broadcastInDim Cert.ReferenceIdeal.S64x1000000 ![0, 1] Cert.ReferenceIdeal.Gen.facts.bcast_S64x1_S64x1000000_0_1
        (Host.divf (broadcastInDim Cert.ReferenceIdeal.S64x1 ![] Cert.ReferenceIdeal.Gen.facts.bcast_S_S64x1 (constant Cert.ReferenceIdeal.S_ .f32 0x3F800000#32))
          (addf (broadcastInDim Cert.ReferenceIdeal.S64x1 ![] Cert.ReferenceIdeal.Gen.facts.bcast_S_S64x1 (constant Cert.ReferenceIdeal.S_ .f32 0x3F800000#32))
            (Host.exp (Host.negf t)))))
      = scaled (F := Ideal) x t := by
  funext i
  refine (congrArg (Ideal.div (x i)) (broadcastInDim_apply _ Cert.ReferenceIdeal.Gen.facts.bcast_S64x1_S64x1000000_0_1 _ i
    (row (i 0)) fun a => by fin_cases a <;> rfl)).trans ?_
  show Ideal.div (x i) (Ideal.div (Ideal.ofBits .f32 0x3F800000#32)
      (Ideal.ofBits .f32 0x3F800000#32 + Ideal.exp (-(t (row (i 0)) : EReal))))
    = (x i : EReal) * Ideal.div (Ideal.ofBits .f32 0x3F800000#32) (Ideal.logistic (t (row (i 0))))
  rw [Ideal.ofBits_one_f32]
  exact (scale_eq_div (pre_apply h i)).symm

end Cert.Scale

end
-- ==== Proof.Same.lean ====
/-
  No operation of the kernel is rewritten for the ideal reading, so the program printed for it is the kernel itself:
  what is proved of the one's runs holds of the other's.
-/
module

public import proofs.«01_k».proof.Proof.Quotient
public import proofs.«01_k».proof.Proof.Gen.KernelIdeal

@[expose] public section

noncomputable section

namespace Cert.Scale

open Cert.Kernel.Gen Cert.KernelIdeal.Gen
open Idealize.ShloMosaic Idealize.ShloMosaic.TcCoe Idealize.SL.Sem

variable {F : FTy → Type} [FloatOps F]

/-- The two programs' body tables agree, label by label. -/
theorem bodies_eq : Cert.Kernel.defs₀ (F := F) = Cert.KernelIdeal.defs₀ (F := F) :=
  congrArg Defs.onTc (funext fun l => funext fun a => by
    match l, a with
    | 0, (t, s) => rfl)

/-- So do their tables with the pipelines. -/
theorem defs_eq : Cert.Kernel.defs (F := F) = Cert.KernelIdeal.defs (F := F) := congrArg (Pipeline.defs Cert.Kernel.pcfgs) bodies_eq

/-- The run of the program printed for the ideal reading, with its result. -/
theorem run_result_ideal (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_v0)
            = scaled (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (defs_eq (F := F)) ▸ run_result (F := F) m ρ

end Cert.Scale

end
-- ==== Proof.lean ====
/-
  The claims: the kernel, its ideal reading and the reference each run, leave their arguments as launched and every
  counter at zero; the ideal reading rewrites nothing; and the ideal reading's result is the reference's, element by
  element, wherever no logit is zero in a row whose temperature is `−∞`.
-/
module

public import proofs.«01_k».proof.Defs
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem
open Cert.Kernel.Gen Cert.KernelIdeal.Gen Cert.ReferenceIdeal.Gen

/-- The kernel runs, its arguments and counters as before. -/
theorem kernel_frame : Cert.quiescent_Kernel := fun m g _ =>
  (θ_run _ _ _).mono (fun _ h => ⟨fun c => (h.1 c).2, h.2⟩) (Scale.run_result (F := Bits) m g)

/-- So does its ideal reading, from any memory, -/
theorem ideal_frame : Cert.quiescent_KernelIdeal := fun m g _ =>
  (θ_run _ _ _).mono (fun _ h => ⟨fun c => (h.1 c).2, h.2⟩) (Scale.run_result_ideal (F := Ideal) m g)

/-- and the reference, which has no counter. -/
theorem reference_frame : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- The ideal reading's result is the reference's. -/
theorem equal : Cert.algebraic_KernelIdeal_ReferenceIdeal_pre_no_zero_over_zero := fun m g m' g' hpre hargs => by
  refine ⟨_, (θ_run _ _ _).mono (fun _ h => h.1) (Scale.run_result_ideal (F := Ideal) m g), ?_⟩
  refine (θ_run _ _ _).mono (fun r h c => ⟨(h c).1.trans ?_, (h c).2⟩) (Cert.ReferenceIdeal.Value.run (F := Ideal) m' g')
  rw [(hargs c).1, (hargs c).2]
  exact Scale.quotient_eq (hpre c)

/-- All the claims. -/
theorem claim : Cert.Claim :=
  ⟨Cert.Kernel.Gen.facts, Cert.KernelIdeal.Gen.facts, Cert.ReferenceIdeal.Gen.facts, Scale.preFacts,
    kernel_frame, ideal_frame, fun m g _ => ideal_frame m g trivial, reference_frame, fun m g _ => reference_frame m g trivial,
    trivial, equal⟩

end Cert.Proof

end
